-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_idx_names_distinct_rows [hPre_idx_names_distinct_rows : Cert.Pre_idx_names_distinct_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_names_distinct_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_names_distinct_rows [hPre_idx_names_distinct_rows : Cert.Pre_idx_names_distinct_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_names_distinct_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_idx_names_distinct_rows [hKernelIdeal : Cert.KernelIdeal.Facts] [hPre_idx_names_distinct_rows : Cert.Pre_idx_names_distinct_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_idx_names_distinct_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_idx_names_distinct_rows [hReferenceIdeal : Cert.ReferenceIdeal.Facts] [hPre_idx_names_distinct_rows : Cert.Pre_idx_names_distinct_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_names_distinct_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_idx_names_distinct_rows [hKernelIdeal : Cert.KernelIdeal.Facts] [hReferenceIdeal : Cert.ReferenceIdeal.Facts] [hPre_idx_names_distinct_rows : Cert.Pre_idx_names_distinct_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_idx_names_distinct_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_idx_names_distinct_rows : Cert.Pre_idx_names_distinct_rows.Facts),
    quiescent_Kernel (hKernel := hKernel)
    ∧ quiescent_KernelIdeal (hKernelIdeal := hKernelIdeal)
    ∧ quiescent_KernelIdeal_pre_idx_names_distinct_rows (hKernelIdeal := hKernelIdeal) (hPre_idx_names_distinct_rows := hPre_idx_names_distinct_rows)
    ∧ quiescent_ReferenceIdeal (hReferenceIdeal := hReferenceIdeal)
    ∧ quiescent_ReferenceIdeal_pre_idx_names_distinct_rows (hReferenceIdeal := hReferenceIdeal) (hPre_idx_names_distinct_rows := hPre_idx_names_distinct_rows)
    ∧ preserves_Kernel_KernelIdeal
    ∧ algebraic_KernelIdeal_ReferenceIdeal_pre_idx_names_distinct_rows (hKernelIdeal := hKernelIdeal) (hReferenceIdeal := hReferenceIdeal) (hPre_idx_names_distinct_rows := hPre_idx_names_distinct_rows)
-- ==== Pre_idx_names_distinct_rows.lean ====
abbrev S65536x768 : Shape := ⟨2, ![65536, 768]⟩
abbrev S65536x2 : Shape := ⟨2, ![65536, 2]⟩
abbrev S65536 : Shape := ⟨1, ![65536]⟩
abbrev S16384x768 : Shape := ⟨2, ![16384, 768]⟩
abbrev S16384x2 : Shape := ⟨2, ![16384, 2]⟩
abbrev S16384 : Shape := ⟨1, ![16384]⟩
abbrev S_ : Shape := ⟨0, ![]⟩
abbrev S16384x16384 : Shape := ⟨2, ![16384, 16384]⟩
abbrev S16384x1 : Shape := ⟨2, ![16384, 1]⟩
abbrev S1x16384 : Shape := ⟨2, ![1, 16384]⟩

class Facts : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)

variable [Facts]

def fn_part1 {F : FTy → Type} [FloatOps F] (main_v12 : IVec S16384x1 1) (main_v19 : IVec S16384x16384 1) : IVec S16384x16384 1 :=
  let main_v20 : IVec S16384x16384 1 := broadcastInDim S16384x16384 ![0, 1] bcast_S16384x1_S16384x16384_0_1 main_v12
  let main_v21 : IVec S16384x16384 1 := andi main_v20 main_v19
  main_v21

def fn {F : FTy → Type} [FloatOps F] (main_arg0 : FVec F S65536x768 .f32) (main_arg1 : FVec F S65536x2 .f32) (main_arg2 : FVec F S65536x2 .f32) (main_arg3 : FVec F S65536 .f32) (main_arg4 : FVec F S16384x768 .f32) (main_arg5 : FVec F S16384x2 .f32) (main_arg6 : FVec F S16384x2 .f32) (main_arg7 : FVec F S16384 .f32) (main_arg8 : IVec S16384 32) : IVec S16384x16384 1 :=
  let main_c : IVec S_ 32 := constantI S_ 32 0#32
  let main_v0 : IVec S16384 32 := broadcastInDim S16384 ![] bcast_S_S16384 main_c
  let main_v1 : IVec S16384 1 := cmpi .slt main_arg8 main_v0
  let main_c_0 : IVec S_ 32 := constantI S_ 32 65536#32
  let main_v2 : IVec S16384 32 := broadcastInDim S16384 ![] bcast_S_S16384 main_c_0
  let main_v3 : IVec S16384 32 := addi main_arg8 main_v2
  let main_v4 : IVec S16384 32 := select main_v1 main_v3 main_arg8
  let main_c_1 : IVec S_ 32 := constantI S_ 32 0#32
  let main_v5 : IVec S16384 32 := broadcastInDim S16384 ![] bcast_S_S16384 main_c_1
  let main_v6 : IVec S16384 1 := cmpi .sge main_v4 main_v5
  let main_c_2 : IVec S_ 32 := constantI S_ 32 65536#32
  let main_v7 : IVec S16384 32 := broadcastInDim S16384 ![] bcast_S_S16384 main_c_2
  let main_v8 : IVec S16384 1 := cmpi .slt main_v4 main_v7
  let main_v9 : IVec S16384 1 := andi main_v6 main_v8
  let main_v10 : IVec S16384x16384 32 := iotaInDim S16384x16384 32 0
  let main_v11 : IVec S16384x16384 32 := iotaInDim S16384x16384 32 1
  let main_v12 : IVec S16384x1 1 := broadcastInDim S16384x1 ![0] bcast_S16384_S16384x1_0 main_v9
  let main_v13 : IVec S16384x1 32 := broadcastInDim S16384x1 ![0] bcast_S16384_S16384x1_0 main_v4
  let main_v14 : IVec S1x16384 32 := broadcastInDim S1x16384 ![1] bcast_S16384_S1x16384_1 main_v4
  let main_v15 : IVec S16384x16384 32 := broadcastInDim S16384x16384 ![0, 1] bcast_S16384x1_S16384x16384_0_1 main_v13
  let main_v16 : IVec S16384x16384 32 := broadcastInDim S16384x16384 ![0, 1] bcast_S1x16384_S16384x16384_0_1 main_v14
  let main_v17 : IVec S16384x16384 1 := cmpi .ne main_v15 main_v16
  let main_v18 : IVec S16384x16384 1 := cmpi .eq main_v10 main_v11
  let main_v19 : IVec S16384x16384 1 := ori main_v17 main_v18
  fn_part1 (F := F) main_v12 main_v19
-- ==== Kernel.lean ====
abbrev S65536x768 : Shape := ⟨2, ![65536, 768]⟩
abbrev S65536x2 : Shape := ⟨2, ![65536, 2]⟩
abbrev S65536 : Shape := ⟨1, ![65536]⟩
abbrev S16384x768 : Shape := ⟨2, ![16384, 768]⟩
abbrev S16384x2 : Shape := ⟨2, ![16384, 2]⟩
abbrev S16384 : Shape := ⟨1, ![16384]⟩
abbrev S2x16384 : Shape := ⟨2, ![2, 16384]⟩
abbrev S1x16384 : Shape := ⟨2, ![1, 16384]⟩
abbrev S5x16384 : Shape := ⟨2, ![5, 16384]⟩
abbrev S16384x773 : Shape := ⟨2, ![16384, 773]⟩
abbrev S4096x768 : Shape := ⟨2, ![4096, 768]⟩
abbrev S4096x773 : Shape := ⟨2, ![4096, 773]⟩
abbrev S5x4096 : Shape := ⟨2, ![5, 4096]⟩
abbrev S4096x5 : Shape := ⟨2, ![4096, 5]⟩

abbrev nBuf : Space → Nat
  | .hbm => 14
  | .vmem => 5
  | .smem => 0
  | _ => 0

abbrev bufTy : (tb : Table) → Fin (tcTables nBuf tb) → BufTy
  | .hbm, ⟨0, _⟩ => ⟨S65536x768, .f32⟩
  | .hbm, ⟨1, _⟩ => ⟨S65536x2, .f32⟩
  | .hbm, ⟨2, _⟩ => ⟨S65536x2, .f32⟩
  | .hbm, ⟨3, _⟩ => ⟨S65536, .f32⟩
  | .hbm, ⟨4, _⟩ => ⟨S16384x768, .f32⟩
  | .hbm, ⟨5, _⟩ => ⟨S16384x2, .f32⟩
  | .hbm, ⟨6, _⟩ => ⟨S16384x2, .f32⟩
  | .hbm, ⟨7, _⟩ => ⟨S16384, .f32⟩
  | .hbm, ⟨8, _⟩ => ⟨S16384, .i32⟩
  | .hbm, ⟨9, _⟩ => ⟨S2x16384, .f32⟩
  | .hbm, ⟨10, _⟩ => ⟨S2x16384, .f32⟩
  | .hbm, ⟨11, _⟩ => ⟨S1x16384, .f32⟩
  | .hbm, ⟨12, _⟩ => ⟨S5x16384, .f32⟩
  | .hbm, ⟨13, _⟩ => ⟨S16384x773, .f32⟩
  | .local _ .vmem, ⟨0, _⟩ => ⟨S4096x768, .f32⟩
  | .local _ .vmem, ⟨1, _⟩ => ⟨S4096x768, .f32⟩
  | .local _ .vmem, ⟨2, _⟩ => ⟨S5x16384, .f32⟩
  | .local _ .vmem, ⟨3, _⟩ => ⟨S4096x773, .f32⟩
  | .local _ .vmem, ⟨4, _⟩ => ⟨S4096x773, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0_3 : Index := 0#32
  let arg0 : BitVec 32 := BitVec.ofNat 32 (i 0).val
  let c4096_i32 : BitVec 32 := 4096#32
  let v2 : BitVec 32 := Scalar.muli arg0 c4096_i32
  let v3 : Index := Scalar.indexCast v2
  ![0, v3.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x773 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S65536x768 : Shape := ⟨2, ![65536, 768]⟩
abbrev S65536x2 : Shape := ⟨2, ![65536, 2]⟩
abbrev S65536 : Shape := ⟨1, ![65536]⟩
abbrev S16384x768 : Shape := ⟨2, ![16384, 768]⟩
abbrev S16384x2 : Shape := ⟨2, ![16384, 2]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x773 : Shape := ⟨2, ![16384, 773]⟩

abbrev nBuf : Space → Nat
  | .hbm => 138
  | .vmem => 0
  | .smem => 0
  | _ => 0

abbrev hbmTy0_0 (i : Nat) : BufTy := match i % 128 with
  | 0 => ⟨S65536x768, .f32⟩
  | 1 => ⟨S65536x2, .f32⟩
  | 2 => ⟨S65536x2, .f32⟩
  | 3 => ⟨S65536, .f32⟩
  | 4 => ⟨S16384x768, .f32⟩
  | 5 => ⟨S16384x2, .f32⟩
  | 6 => ⟨S16384x2, .f32⟩
  | 7 => ⟨S16384, .f32⟩
  | 8 => ⟨S16384, .i32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S65536x768, .f32⟩
  | 18 => ⟨S_, .i32⟩
  | 19 => ⟨S16384, .i32⟩
  | 20 => ⟨S16384, .i1⟩
  | 21 => ⟨S_, .i32⟩
  | 22 => ⟨S16384, .i32⟩
  | 23 => ⟨S16384, .i32⟩
  | 24 => ⟨S16384, .i32⟩
  | 25 => ⟨S16384x1, .i32⟩
  | 26 => ⟨S65536x2, .f32⟩
  | 27 => ⟨S_, .i32⟩
  | 28 => ⟨S16384, .i32⟩
  | 29 => ⟨S16384, .i1⟩
  | 30 => ⟨S_, .i32⟩
  | 31 => ⟨S16384, .i32⟩
  | 32 => ⟨S16384, .i32⟩
  | 33 => ⟨S16384, .i32⟩
  | 34 => ⟨S16384x1, .i32⟩
  | 35 => ⟨S65536x2, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S65536, .f32⟩
  | 45 => ⟨S_, .i32⟩
  | 46 => ⟨S16384, .i32⟩
  | 47 => ⟨S16384, .i1⟩
  | 48 => ⟨S_, .i32⟩
  | 49 => ⟨S16384, .i32⟩
  | 50 => ⟨S16384, .i32⟩
  | 51 => ⟨S16384, .i32⟩
  | 52 => ⟨S16384x1, .i32⟩
  | 53 => ⟨S1, .i32⟩
  | 54 => ⟨S_, .i32⟩
  | 55 => ⟨S16384x1, .i32⟩
  | 56 => ⟨S16384x1, .i1⟩
  | 57 => ⟨S1x1, .i32⟩
  | 58 => ⟨S16384x1, .i32⟩
  | 59 => ⟨S16384x1, .i1⟩
  | 60 => ⟨S16384x1, .i1⟩
  | 61 => ⟨S_, .i1⟩
  | 62 => ⟨S16384, .i1⟩
  | 63 => ⟨S16384x768, .f32⟩
  | 64 => ⟨S16384x768, .i1⟩
  | 65 => ⟨S_, .f32⟩
  | 66 => ⟨S16384x768, .f32⟩
  | 67 => ⟨S16384x768, .f32⟩
  | 68 => ⟨S_, .i32⟩
  | 69 => ⟨S16384, .i32⟩
  | 70 => ⟨S16384, .i1⟩
  | 71 => ⟨S_, .i32⟩
  | 72 => ⟨S16384, .i32⟩
  | 73 => ⟨S16384, .i32⟩
  | 74 => ⟨S16384, .i32⟩
  | 75 => ⟨S16384x1, .i32⟩
  | 76 => ⟨S1, .i32⟩
  | 77 => ⟨S_, .i32⟩
  | 78 => ⟨S16384x1, .i32⟩
  | 79 => ⟨S16384x1, .i1⟩
  | 80 => ⟨S1x1, .i32⟩
  | 81 => ⟨S16384x1, .i32⟩
  | 82 => ⟨S16384x1, .i1⟩
  | 83 => ⟨S16384x1, .i1⟩
  | 84 => ⟨S_, .i1⟩
  | 85 => ⟨S16384, .i1⟩
  | 86 => ⟨S16384x2, .f32⟩
  | 87 => ⟨S16384x2, .i1⟩
  | 88 => ⟨S_, .f32⟩
  | 89 => ⟨S16384x2, .f32⟩
  | 90 => ⟨S16384x2, .f32⟩
  | 91 => ⟨S_, .i32⟩
  | 92 => ⟨S16384, .i32⟩
  | 93 => ⟨S16384, .i1⟩
  | 94 => ⟨S_, .i32⟩
  | 95 => ⟨S16384, .i32⟩
  | 96 => ⟨S16384, .i32⟩
  | 97 => ⟨S16384, .i32⟩
  | 98 => ⟨S16384x1, .i32⟩
  | 99 => ⟨S1, .i32⟩
  | 100 => ⟨S_, .i32⟩
  | 101 => ⟨S16384x1, .i32⟩
  | 102 => ⟨S16384x1, .i1⟩
  | 103 => ⟨S1x1, .i32⟩
  | 104 => ⟨S16384x1, .i32⟩
  | 105 => ⟨S16384x1, .i1⟩
  | 106 => ⟨S16384x1, .i1⟩
  | 107 => ⟨S_, .i1⟩
  | 108 => ⟨S16384, .i1⟩
  | 109 => ⟨S16384x2, .f32⟩
  | 110 => ⟨S16384x2, .i1⟩
  | 111 => ⟨S_, .f32⟩
  | 112 => ⟨S16384x2, .f32⟩
  | 113 => ⟨S16384x2, .f32⟩
  | 114 => ⟨S_, .i32⟩
  | 115 => ⟨S16384, .i32⟩
  | 116 => ⟨S16384, .i1⟩
  | 117 => ⟨S_, .i32⟩
  | 118 => ⟨S16384, .i32⟩
  | 119 => ⟨S16384, .i32⟩
  | 120 => ⟨S16384, .i32⟩
  | 121 => ⟨S16384x1, .i32⟩
  | 122 => ⟨S1, .i32⟩
  | 123 => ⟨S_, .i32⟩
  | 124 => ⟨S16384x1, .i32⟩
  | 125 => ⟨S16384x1, .i1⟩
  | 126 => ⟨S1x1, .i32⟩
  | 127 => ⟨S16384x1, .i32⟩
  | _ => ⟨S65536x768, .f32⟩

abbrev hbmTy0_1 (i : Nat) : BufTy := match i % 128 with
  | 0 => ⟨S16384x1, .i1⟩
  | 1 => ⟨S16384x1, .i1⟩
  | 2 => ⟨S_, .i1⟩
  | 3 => ⟨S16384, .i1⟩
  | 4 => ⟨S16384, .f32⟩
  | 5 => ⟨S_, .f32⟩
  | 6 => ⟨S16384, .f32⟩
  | 7 => ⟨S16384, .f32⟩
  | 8 => ⟨S16384x1, .f32⟩
  | 9 => ⟨S16384x773, .f32⟩
  | _ => ⟨S65536x768, .f32⟩

abbrev hbmTy (i : Nat) : BufTy := match i / 128 with
  | 0 => hbmTy0_0 i
  | 1 => hbmTy0_1 i
  | _ => ⟨S65536x768, .f32⟩

abbrev bufTy : (tb : Table) → Fin (tcTables nBuf tb) → BufTy
  | .hbm, ⟨i, _⟩ => hbmTy i
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_cst : Ref sig .tc := ⟨.hbm, 65, rfl⟩
abbrev main_call0_v15 : Ref sig .tc := ⟨.hbm, 66, rfl⟩
abbrev main_v28 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_c_1 : Ref sig .tc := ⟨.hbm, 76, rfl⟩
abbrev main_call1_c_2 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_3 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_cst : Ref sig .tc := ⟨.hbm, 88, rfl⟩
abbrev main_call1_v15 : Ref sig .tc := ⟨.hbm, 89, rfl⟩
abbrev main_v29 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_c_1 : Ref sig .tc := ⟨.hbm, 99, rfl⟩
abbrev main_call2_c_2 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_3 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_call2_cst : Ref sig .tc := ⟨.hbm, 111, rfl⟩
abbrev main_call2_v15 : Ref sig .tc := ⟨.hbm, 112, rfl⟩
abbrev main_v30 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_cst : Ref sig .tc := ⟨.hbm, 133, rfl⟩
abbrev main_call3_v14 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩

abbrev nD : Nat := 1
abbrev τ : Topo := Topo.v7x

variable {F : FTy → Type} [FloatOps F]
-- ==== Proof.Joined.lean ====
module

public import Idealize.ShloMosaic.Lib.Pipeline.Value
public import Idealize.ShloMosaic.Lib.ValueLayout

/-!
# The four arrays side by side

The array both programs end with: row `r` holds the feature row `r`, then the two locations, the two scales and the confidence of
the same row. Here it is stated once, entry by entry, and the two layouts met on the way are read at an index: the four column
blocks laid side by side, and the three row blocks laid one under another.
-/

@[expose] public section

namespace Cert.Proof

open Idealize.ShloMosaic Idealize.ShloMosaic.ValueIdx

variable {α : Type}

/-- The bank row an index names: a negative index counts from the bank's end. -/
def named (a : BitVec 32) : BitVec 32 :=
  Scalar.select (IntOp.cmpi .slt a 0#32) (IntOp.addi a 65536#32) a

/-- Feature rows, locations, scales and confidences of the same row, side by side, in 773 columns. -/
def joined (f : (⟨2, ![16384, 768]⟩ : Shape).Idx → α) (l s : (⟨2, ![16384, 2]⟩ : Shape).Idx → α)
    (p : (⟨1, ![16384]⟩ : Shape).Idx → α) (r : Fin 16384) (y : Fin 773) : α :=
  if h₁ : y.val < 768 then f (ix2 r ⟨y.val, h₁⟩)
  else if h₂ : y.val < 770 then l (ix2 r ⟨y.val - 768, by omega⟩)
  else if h₃ : y.val < 772 then s (ix2 r ⟨y.val - 770, by omega⟩)
  else p (ix1 r)

/-- Four column blocks that hold the four arrays, laid side by side, are `joined`, entry by entry. -/
theorem concatenate_columns (f : (⟨2, ![16384, 768]⟩ : Shape).Idx → α) (l s : (⟨2, ![16384, 2]⟩ : Shape).Idx → α)
    (p : (⟨1, ![16384]⟩ : Shape).Idx → α) (fb : (⟨2, ![16384, 768]⟩ : Shape).Idx → α) (lb sb : (⟨2, ![16384, 2]⟩ : Shape).Idx → α)
    (pb : (⟨2, ![16384, 1]⟩ : Shape).Idx → α) (hf : ∀ r k, fb (ix2 r k) = f (ix2 r k)) (hl : ∀ r k, lb (ix2 r k) = l (ix2 r k))
    (hs : ∀ r k, sb (ix2 r k) = s (ix2 r k)) (hp : ∀ r, pb (ix2 r (0 : Fin 1)) = p (ix1 r))
    (h : Shape.Concatenates [⟨2, ![16384, 768]⟩, ⟨2, ![16384, 2]⟩, ⟨2, ![16384, 2]⟩, ⟨2, ![16384, 1]⟩] ⟨2, ![16384, 773]⟩ 1)
    (r : Fin 16384) (y : Fin 773) :
    concatenate ⟨2, ![16384, 773]⟩ 1 [⟨⟨2, ![16384, 768]⟩, fb⟩, ⟨⟨2, ![16384, 2]⟩, lb⟩, ⟨⟨2, ![16384, 2]⟩, sb⟩, ⟨⟨2, ![16384, 1]⟩, pb⟩] h (ix2 r y)
      = joined f l s p r y := by
  have hy := y.isLt
  unfold joined
  split_ifs with h₁ h₂ h₃
  · rw [← hf]
    exact concatenate_apply_piece 1 _ _ (ix2 r y) 0 (by simp) ⟨2, ![16384, 768]⟩ fb rfl rfl 0 rfl (ix2 r ⟨y.val, h₁⟩)
      (fun b hb => match b with | ⟨0, _⟩ => rfl | ⟨1, _⟩ => absurd rfl hb) (Nat.zero_add _)
  · rw [← hl]
    exact concatenate_apply_piece 1 _ _ (ix2 r y) 1 (by simp) ⟨2, ![16384, 2]⟩ lb rfl rfl 768 rfl (ix2 r ⟨y.val - 768, by omega⟩)
      (fun b hb => match b with | ⟨0, _⟩ => rfl | ⟨1, _⟩ => absurd rfl hb) (by show 768 + (y.val - 768) = y.val; omega)
  · rw [← hs]
    exact concatenate_apply_piece 1 _ _ (ix2 r y) 2 (by simp) ⟨2, ![16384, 2]⟩ sb rfl rfl 770 rfl (ix2 r ⟨y.val - 770, by omega⟩)
      (fun b hb => match b with | ⟨0, _⟩ => rfl | ⟨1, _⟩ => absurd rfl hb) (by show 770 + (y.val - 770) = y.val; omega)
  · rw [← hp]
    exact concatenate_apply_piece 1 _ _ (ix2 r y) 3 (by simp) ⟨2, ![16384, 1]⟩ pb rfl rfl 772 rfl (ix2 r 0)
      (fun b hb => match b with | ⟨0, _⟩ => rfl | ⟨1, _⟩ => absurd rfl hb) (by show 772 + 0 = y.val; omega)

/-- Locations and scales turned on their sides, and the confidences as one row, laid one under another: entry `(k, r)` is column
    `768 + k` of `joined` at row `r`. -/
theorem concatenate_tail (f : (⟨2, ![16384, 768]⟩ : Shape).Idx → α) (l s : (⟨2, ![16384, 2]⟩ : Shape).Idx → α)
    (p : (⟨1, ![16384]⟩ : Shape).Idx → α) (lt st : (⟨2, ![2, 16384]⟩ : Shape).Idx → α) (pr : (⟨2, ![1, 16384]⟩ : Shape).Idx → α)
    (hl : ∀ k r, lt (ix2 k r) = l (ix2 r k)) (hs : ∀ k r, st (ix2 k r) = s (ix2 r k)) (hp : ∀ r, pr (ix2 (0 : Fin 1) r) = p (ix1 r))
    (h : Shape.Concatenates [⟨2, ![2, 16384]⟩, ⟨2, ![2, 16384]⟩, ⟨2, ![1, 16384]⟩] ⟨2, ![5, 16384]⟩ 0)
    (r : Fin 16384) (k : Fin 5) (y : Fin 773) (hy : y.val = 768 + k.val) :
    concatenate ⟨2, ![5, 16384]⟩ 0 [⟨⟨2, ![2, 16384]⟩, lt⟩, ⟨⟨2, ![2, 16384]⟩, st⟩, ⟨⟨2, ![1, 16384]⟩, pr⟩] h (ix2 k r)
      = joined f l s p r y := by
  have hk := k.isLt
  unfold joined
  rw [dif_neg (by omega)]
  split_ifs with h₂ h₃
  · rw [← hl]
    exact concatenate_apply_piece 0 _ _ (ix2 k r) 0 (by simp) ⟨2, ![2, 16384]⟩ lt rfl rfl 0 rfl (ix2 ⟨y.val - 768, by omega⟩ r)
      (fun b hb => match b with | ⟨0, _⟩ => absurd rfl hb | ⟨1, _⟩ => rfl) (by show 0 + (y.val - 768) = k.val; omega)
  · rw [← hs]
    exact concatenate_apply_piece 0 _ _ (ix2 k r) 1 (by simp) ⟨2, ![2, 16384]⟩ st rfl rfl 2 rfl (ix2 ⟨y.val - 770, by omega⟩ r)
      (fun b hb => match b with | ⟨0, _⟩ => absurd rfl hb | ⟨1, _⟩ => rfl) (by show 2 + (y.val - 770) = k.val; omega)
  · rw [← hp]
    exact concatenate_apply_piece 0 _ _ (ix2 k r) 2 (by simp) ⟨2, ![1, 16384]⟩ pr rfl rfl 4 rfl (ix2 0 r)
      (fun b hb => match b with | ⟨0, _⟩ => absurd rfl hb | ⟨1, _⟩ => rfl) (by show 4 + 0 = k.val; omega)

end Cert.Proof
-- ==== Proof.KernelValue.lean ====
module

public import proofs.«01_k».proof.Proof.Joined
public import proofs.«01_k».proof.Proof.Gen.KernelIdeal.Value
public import Idealize.ShloMosaic.Lib.WritesUnit
public import Idealize.ShloMosaic.Lib.StableHlo.Run

/-!
# What the kernel leaves, entry by entry

One grid point writes 4096 rows: the feature block into columns 0 to 767, and the matching 4096 columns of the packed tail, turned
on their side, into columns 768 to 772. The four points together write every row, so the result at row `r` and column `y` is the
entry of the four arrays laid side by side (`joined`).
-/

@[expose] public section

noncomputable section

namespace Cert.Proof.KernelValue

open Cert.KernelIdeal Cert.KernelIdeal.Gen
open Idealize.ShloMosaic Idealize.ShloMosaic.TcCoe Idealize.ShloMosaic.ValueIdx

variable {F : FTy → Type} [FloatOps F]

section Block

variable (c : Dev nD) (i : grid0.Coords) (arg1 : Memref sig .tc .vmem S4096x768 .f32) (harg1 : arg1.IsWhole)
  (arg2 : Memref sig .tc .vmem S5x16384 .f32) (harg2 : arg2.IsWhole) (arg3 : Memref sig .tc .vmem S4096x773 .f32) (harg3 : arg3.IsWhole)
  (x0 : Vec F S4096x768 .f32) (x1 : Vec F S5x16384 .f32)

/-- A point's block in its last five columns: the tail, turned on its side, from the point's first row on. -/
theorem out_tail (q : Fin 4096) (y : Fin 773) (k : Fin 5) (r : Fin 16384) (hy : y.val = 768 + k.val)
    (hr : r.val = 4096 * (i 0).val + q.val) :
    out0_A_2 c i arg1 harg1 arg2 harg2 arg3 harg3 x0 x1 (ix2 q y) = x1 (ix2 k r) := by
  unfold out0_A_2 kernelRun0_A
  refine (View.read_writes_cons_unit_of_mem VO0_2 _ (off' := ![0, 768]) _ _ _ (ix2 q y) (ix2 q k) rfl fun a => ?_).trans ?_
  · match a with
    | ⟨0, _⟩ => exact (Nat.zero_add _).symm
    | ⟨1, _⟩ => exact hy
  show k0_pay1 (arg2.view.readAt (Elt F) (Rect.unit (s := S5x16384) (k0_off1 i) S5x4096.size (k0_off1_inb i)).toLoadRect (harg2.unread x1)) (ix2 q k) = _
  unfold k0_pay1
  rw [shapeCast_self]
  refine (transpose_ix2_apply _ _ q k).trans ?_
  rw [View.readAt_apply, harg2.read_unread]
  refine congrArg x1 (funext fun a => Fin.ext ?_)
  have e := k0_off1_eq i
  match a with
  | ⟨0, _⟩ =>
    show k0_off1 i 0 + 1 * k.val = k.val
    rw [e]; show 0 + 1 * k.val = k.val; omega
  | ⟨1, _⟩ =>
    show k0_off1 i 1 + 1 * q.val = r.val
    rw [e]; show 4096 * (i 0).val + 1 * q.val = r.val; omega

/-- A point's block in its first 768 columns: the feature block. -/
theorem out_features (q : Fin 4096) (y : Fin 773) (z : Fin 768) (hy : y.val = z.val) :
    out0_A_2 c i arg1 harg1 arg2 harg2 arg3 harg3 x0 x1 (ix2 q y) = x0 (ix2 q z) := by
  have hz := z.isLt
  unfold out0_A_2 kernelRun0_A
  refine (View.read_writes_cons_unit_of_not_mem VO0_2 _ (off' := ![0, 768]) _ _ _ (ix2 q y) rfl 1 (.inl ?_)).trans ?_
  · show y.val < 768; omega
  refine (View.read_writes_cons_unit_of_mem VO0_2 _ (off' := ![0, 0]) _ _ _ (ix2 q y) (ix2 q z) rfl fun a => ?_).trans ?_
  · match a with
    | ⟨0, _⟩ => exact (Nat.zero_add _).symm
    | ⟨1, _⟩ => exact hy.trans (Nat.zero_add _).symm
  show arg1.view.readAt (Elt F) (Rect.unit (s := S4096x768) ![0, 0] S4096x768.size _).toLoadRect (harg1.unread x0) (ix2 q z) = _
  rw [View.readAt_apply, harg1.read_unread]
  refine congrArg x0 (funext fun a => Fin.ext ?_)
  match a with
  | ⟨0, _⟩ => show 0 + 1 * q.val = q.val; omega
  | ⟨1, _⟩ => show 0 + 1 * z.val = z.val; omega

end Block

variable (m : (ℓ : Loc nD τ sig) → Buf (Elt F) ℓ)

/-- Where each window's block sits at a grid point: the feature block and the result block at the point's number, the tail whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ (grid0.coords t 0).val = t.val :=
  (by decide +kernel : ∀ t : Fin grid0.N, _)

/-- The feature block of point `t` is rows `4096 t` on of the features. -/
theorem block_features (c : Dev nD) (t : Fin cfg0.N) (q : Fin 4096) (z : Fin 768) (r : Fin 16384) (hr : r.val = 4096 * t.val + q.val) :
    iblk m c 0 t (ix2 q z) = m ((c : Thread nD τ).loc main_arg4) (ix2 r z) := by
  obtain ⟨e0, e1, _⟩ := idx_facts t
  refine Eq.trans ?_ (congrFun (V_main_arg4 m c) (ix2 r z))
  show V m c main_arg4 (((cfg0.win 0).blk t).view.emb (ix2 q z)) = _
  refine congrArg (V m c main_arg4) (funext fun a => Fin.ext ?_)
  match a with
  | ⟨0, _⟩ => show win0_0.index t (0 : Fin 2) * 4096 + 1 * q.val = r.val; omega
  | ⟨1, _⟩ => show win0_0.index t (1 : Fin 2) * 768 + 1 * z.val = z.val; omega

/-- The packed tail as the region finds it. -/
theorem tail_array (c : Dev nD) : V m c main_v3 = (concatenate S5x16384 0
      [⟨S2x16384, transpose S2x16384 [1, 0] (m ((c : Thread nD τ).loc main_arg5) : (⟨S16384x2, .f32⟩ : BufTy).Contents (Elt F)) transposes_S16384x2_S2x16384_1_0⟩,
       ⟨S2x16384, transpose S2x16384 [1, 0] (m ((c : Thread nD τ).loc main_arg6) : (⟨S16384x2, .f32⟩ : BufTy).Contents (Elt F)) transposes_S16384x2_S2x16384_1_0⟩,
       ⟨S1x16384, broadcastInDim S1x16384 ![1] bcast_S16384_S1x16384_1 (m ((c : Thread nD τ).loc main_arg7) : (⟨S16384, .f32⟩ : BufTy).Contents (Elt F))⟩]
      concatenates_S2x16384_S2x16384_S1x16384_S5x16384_d0 : (⟨S5x16384, .f32⟩ : BufTy).Contents (Elt F)) := by
  show StableHlo.after hostOps0 (fun b => m (c, b)) (Proc.devRef .tc main_v3) = _
  after_results
  refine StableHlo.concatenate_congr _ _ ?_ _ _
  dsimp only [Matrix.cons_val]
  simp only [StableHlo.readResult]

/-- The tail window is the whole packed tail at every point. -/
theorem block_tail (c : Dev nD) (t : Fin cfg0.N) (k : Fin 5) (r : Fin 16384) :
    iblk m c 1 t (ix2 k r) = V m c main_v3 (ix2 k r) := by
  obtain ⟨_, _, e0, e1, _⟩ := idx_facts t
  show V m c main_v3 (((cfg0.win 1).blk t).view.emb (ix2 k r)) = _
  refine congrArg (V m c main_v3) (funext fun a => Fin.ext ?_)
  match a with
  | ⟨0, _⟩ => show win0_1.index t (0 : Fin 2) * 5 + 1 * k.val = k.val; omega
  | ⟨1, _⟩ => show win0_1.index t (1 : Fin 2) * 16384 + 1 * r.val = r.val; omega

/-- THE RESULT OF THE KERNEL, entry by entry: the four arrays laid side by side. -/
theorem result_apply (c : Dev nD) (r : Fin 16384) (y : Fin 773) :
    (dats m 0 c).arrAt 2 cfg0.N (ix2 r y)
      = joined (α := F .f32) (m ((c : Thread nD τ).loc main_arg4)) (m ((c : Thread nD τ).loc main_arg5)) (m ((c : Thread nD τ).loc main_arg6))
          (m ((c : Thread nD τ).loc main_arg7)) r y := by
  have hr := r.isLt
  have hy := y.isLt
  have hN : cfg0.N = 4 := by decide
  let t : Fin cfg0.N := ⟨r.val / 4096, by rw [hN]; omega⟩
  let q : Fin 4096 := ⟨r.val % 4096, Nat.mod_lt _ (by decide)⟩
  have hq : r.val = 4096 * t.val + q.val := (Nat.div_add_mod _ _).symm
  obtain ⟨_, _, _, _, e0, e1, e2⟩ := idx_facts t
  have hemb : ((cfg0.win 2).blk t).view.emb (ix2 q y) = ix2 r y := by
    funext a; apply Fin.ext
    match a with
    | ⟨0, _⟩ => show win0_2.index t (0 : Fin 2) * 4096 + 1 * q.val = r.val; omega
    | ⟨1, _⟩ => show win0_2.index t (1 : Fin 2) * 773 + 1 * y.val = y.val; omega
  have b := congrFun (Cert.KernelIdeal.Value.blocks2 m c t (flush0_2 t)) (ix2 q y)
  rw [Cert.KernelIdeal.Value.flushed2_A] at b
  have b' : (dats m 0 c).arrAt 2 cfg0.N (((cfg0.win 2).blk t).view.emb (ix2 q y)) = _ := b
  rw [hemb] at b'
  refine b'.trans ?_
  show out0_A_2 c (grid0.coords t) (ms0_0 t) (hs0_0 t) (ms0_1 t) (hs0_1 t) (ms0_2 t) (hs0_2 t) (iblk m c 0 t) (iblk m c 1 t) (ix2 q y) = _
  by_cases h : y.val < 768
  · rw [out_features c _ _ _ _ _ _ _ _ _ q y ⟨y.val, h⟩ rfl, block_features m c t q _ r hq]
    unfold joined
    rw [dif_pos h]
  · have hk : y.val - 768 < 5 := by omega
    have hyk : y.val = 768 + (⟨y.val - 768, hk⟩ : Fin 5).val := by show y.val = 768 + (y.val - 768); omega
    rw [out_tail c _ _ _ _ _ _ _ _ _ q y ⟨y.val - 768, hk⟩ r hyk (by omega), block_tail, tail_array]
    refine concatenate_tail _ _ _ _ _ _ _ (fun k r => ?_) (fun k r => ?_) (fun r => ?_) _ r _ y hyk
    · exact transpose_ix2_apply _ _ k r
    · exact transpose_ix2_apply _ _ k r
    · exact broadcastInDim_apply _ _ _ _ (ix1 r) fun a => match a with | ⟨0, _⟩ => rfl

end Cert.Proof.KernelValue
-- ==== Proof.Rows.lean ====
module

public import Idealize.ShloMosaic.Lib.Routing.OpsSet

/-!
# Writing rows and reading them back

A scatter whose body keeps the update, at one row number per update row, followed by a gather at the same row numbers. When the
row numbers lie inside the operand and no two of them agree, the gather gives back the update rows, whatever the operand held.
Once for a matrix of rows and once for a vector.
-/

@[expose] public section

namespace Cert.Proof.Rows

open Idealize.ShloMosaic Idealize.ShloMosaic.ValueIdx Idealize.ShloMosaic.Routing

variable {α : Type} {M C n : Nat}

/-- The row number an update row of a matrix scatter reads is the index word of that row, read signed. -/
theorem start_row (d : ScatterDims (shape2 M C) (shape2 n 1) (shape2 n C)) (huw : d.updateWindowDims = [1])
    (hsd : d.scatterDimsToOperandDims = [0]) (hivd : d.indexVectorDim = 1) (idx : IVec (shape2 n 1) 32) (i : Fin n) (y : Fin C) :
    d.start (ix2 i y) idx 0 = (idx (ix2 i (0 : Fin 1))).toInt := by
  have hm : (0 : Fin 2) ∈ d.scatterDimsToOperandDims := by rw [hsd]; exact List.mem_singleton.2 rfl
  have hk0 : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have e0 : ∀ X : Fin 2, X = 0 → (ix2 i y X).val = i.val := fun X h => by subst h; rfl
  unfold ScatterDims.start
  rw [dif_pos hm]
  refine congrArg (fun k => (idx k).toInt) (funext fun b => Fin.ext ?_)
  match b with
  | ⟨0, _⟩ =>
    unfold ScatterDims.siIdx
    rw [dif_neg (by rw [hivd]; exact Nat.zero_ne_one)]
    unfold ScatterDims.siCoord
    simp only [Fin.val_cast]
    exact e0 _ (hk0 _ (List.getElem_mem _))
  | ⟨1, _⟩ =>
    unfold ScatterDims.siIdx
    rw [dif_pos (by rw [hivd])]
    show List.idxOf (0 : Fin 2) d.scatterDimsToOperandDims = 0
    rw [hsd]; simp

/-- Entry `(i, y)` of a matrix scatter's update lands at `(r, z)` exactly when row `i`'s index word is `r` and `y` is `z`. -/
theorem lands_row (d : ScatterDims (shape2 M C) (shape2 n 1) (shape2 n C)) (huw : d.updateWindowDims = [1])
    (hiw : d.insertedWindowDims = [0]) (hsd : d.scatterDimsToOperandDims = [0]) (hivd : d.indexVectorDim = 1)
    (idx : IVec (shape2 n 1) 32) (i : Fin n) (y z : Fin C) (r : Fin M) :
    d.resultIdx? (ix2 i y) idx = some (ix2 r z) ↔ (idx (ix2 i (0 : Fin 1))).toInt = (r.val : Int) ∧ y = z := by
  have e1 : ∀ X : Fin 2, X = 1 → (ix2 i y X).val = y.val := fun X h => by subst h; rfl
  have hw0 : d.window (ix2 i y) 0 = 0 := by
    unfold ScatterDims.window
    rw [dif_neg fun h => (of_decide_eq_true (List.mem_filter.1 h).2) (by rw [hiw]; exact List.mem_singleton.2 rfl)]
  have hw1 : d.window (ix2 i y) 1 = y.val := by
    have hk : (1 : Fin 2) ∈ d.sKept := List.mem_filter.2 ⟨List.mem_finRange _, by rw [hiw]; exact decide_eq_true fun h => absurd (congrArg Fin.val (List.mem_singleton.1 h)) Nat.one_ne_zero⟩
    unfold ScatterDims.window
    rw [dif_pos hk]
    refine e1 _ (List.mem_singleton.1 ?_)
    rw [← huw]
    exact List.getElem_mem _
  have hs1 : d.start (ix2 i y) idx 1 = 0 := by
    unfold ScatterDims.start
    exact dif_neg (by rw [hsd]; exact fun h => absurd (congrArg Fin.val (List.mem_singleton.1 h)) Nat.one_ne_zero)
  rw [resultIdx?_ix2, start_row d huw hsd hivd, hw0, hw1, hs1]
  constructor
  · rintro ⟨h0, h1⟩
    exact ⟨by simpa using h0, Fin.ext (by omega)⟩
  · rintro ⟨h0, rfl⟩
    exact ⟨by simpa using h0, by omega⟩

/-- Rows written at distinct row numbers of a matrix and read back at the same numbers are the rows written. -/
theorem take_set_rows (ds : ScatterDims (shape2 M C) (shape2 n 1) (shape2 n C)) (huw : ds.updateWindowDims = [1])
    (hiw : ds.insertedWindowDims = [0]) (hsd : ds.scatterDimsToOperandDims = [0]) (hivs : ds.indexVectorDim = 1)
    (dg : GatherDims (shape2 M C) (shape2 n 1) (shape2 n C)) (hoff : dg.offsetDims = [1]) (hcoll : dg.collapsedSliceDims = [0])
    (hob : dg.operandBatchingDims = []) (hsim : dg.startIndexMap = [0]) (hivg : dg.indexVectorDim = 1) (hM : M < 2 ^ 31)
    (x : (shape2 M C).Idx → α) (u : (shape2 n C).Idx → α) (idx : IVec (shape2 n 1) 32) (row : Fin n → Fin M)
    (hrow : ∀ i, idx (ix2 i (0 : Fin 1)) = BitVec.ofNat 32 (row i).val) (hinj : Function.Injective row) (i : Fin n) (y : Fin C) :
    Host.gather dg (Host.scatter ds (fun _ b => b) x idx u) idx (ix2 i y) = u (ix2 i y) := by
  have hint : ∀ k, (idx (ix2 k (0 : Fin 1))).toInt = ((row k).val : Int) := fun k => by
    have hlt := (row k).isLt
    rw [hrow k]
    exact StableHlo.Predicate.toInt_ofNat_small _ (by omega)
  rw [gather_row dg hoff hcoll hob hsim hivg _ idx i y (row i) (hrow i) hM]
  refine scatter_set_hit ds x idx u _ _ (fun k hk => ?_) (ix2 i y) ((lands_row ds huw hiw hsd hivs idx i y y (row i)).2 ⟨hint i, rfl⟩)
  obtain ⟨p, q, rfl⟩ : ∃ p q, k = ix2 p q := ⟨k 0, k 1, funext fun a => by match a with | ⟨0, _⟩ => rfl | ⟨1, _⟩ => rfl⟩
  obtain ⟨h0, rfl⟩ := (lands_row ds huw hiw hsd hivs idx p q y (row i)).1 hk
  rw [hint p] at h0
  rw [hinj (Fin.ext (by omega) : row p = row i)]

/-- Update `i` of a vector scatter lands at `r` exactly when its index word, read signed, is `r`. -/
theorem lands_entry (d : ScatterDims (shape1 M) (shape2 n 1) (shape1 n)) (hiw : d.insertedWindowDims = [0])
    (hsd : d.scatterDimsToOperandDims = [0]) (hivd : d.indexVectorDim = 1) (idx : IVec (shape2 n 1) 32) (i : Fin n) (r : Fin M) :
    d.resultIdx? (ix1 i) idx = some (ix1 r) ↔ (idx (ix2 i (0 : Fin 1))).toInt = (r.val : Int) := by
  have hm : (0 : Fin 1) ∈ d.scatterDimsToOperandDims := by rw [hsd]; exact List.mem_singleton.2 rfl
  have hw : d.window (ix1 i) 0 = 0 := by
    unfold ScatterDims.window
    rw [dif_neg fun h => (of_decide_eq_true (List.mem_filter.1 h).2) (by rw [hiw]; exact List.mem_singleton.2 rfl)]
  have hs : d.start (ix1 i) idx 0 = (idx (ix2 i (0 : Fin 1))).toInt := by
    have e : ∀ X : Fin 1, (ix1 i X).val = i.val := fun X => by
      obtain rfl : X = 0 := Subsingleton.elim _ _
      rfl
    unfold ScatterDims.start
    rw [dif_pos hm]
    refine congrArg (fun k => (idx k).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      exact e _
    | ⟨1, _⟩ =>
      unfold ScatterDims.siIdx
      rw [dif_pos (by rw [hivd])]
      show List.idxOf (0 : Fin 1) d.scatterDimsToOperandDims = 0
      rw [hsd]; simp
  rw [resultIdx?_ix1, hs, hw]
  simp

/-- Entries written at distinct places of a vector and read back at the same places are the entries written. -/
theorem take_set_entries (ds : ScatterDims (shape1 M) (shape2 n 1) (shape1 n)) (hiw : ds.insertedWindowDims = [0])
    (hsd : ds.scatterDimsToOperandDims = [0]) (hivs : ds.indexVectorDim = 1)
    (dg : GatherDims (shape1 M) (shape2 n 1) (shape1 n)) (hcoll : dg.collapsedSliceDims = [0])
    (hob : dg.operandBatchingDims = []) (hsim : dg.startIndexMap = [0]) (hivg : dg.indexVectorDim = 1) (hM : M < 2 ^ 31)
    (x : (shape1 M).Idx → α) (u : (shape1 n).Idx → α) (idx : IVec (shape2 n 1) 32) (row : Fin n → Fin M)
    (hrow : ∀ i, idx (ix2 i (0 : Fin 1)) = BitVec.ofNat 32 (row i).val) (hinj : Function.Injective row) (i : Fin n) :
    Host.gather dg (Host.scatter ds (fun _ b => b) x idx u) idx (ix1 i) = u (ix1 i) := by
  have hint : ∀ k, (idx (ix2 k (0 : Fin 1))).toInt = ((row k).val : Int) := fun k => by
    have hlt := (row k).isLt
    rw [hrow k]
    exact StableHlo.Predicate.toInt_ofNat_small _ (by omega)
  rw [gather_take1 dg hcoll hob hsim hivg _ idx i (row i) (hrow i) hM]
  refine scatter_set_hit ds x idx u _ _ (fun k hk => ?_) (ix1 i) ((lands_entry ds hiw hsd hivs idx i (row i)).2 (hint i))
  obtain ⟨p, rfl⟩ : ∃ p, k = ix1 p := ⟨k 0, funext fun a => by match a with | ⟨0, _⟩ => rfl⟩
  have h0 := (lands_entry ds hiw hsd hivs idx p (row i)).1 hk
  rw [hint p] at h0
  rw [hinj (Fin.ext (by omega) : row p = row i)]

end Cert.Proof.Rows
-- ==== Proof.ReferenceValue.lean ====
module

public import proofs.«01_k».proof.Proof.Joined
public import proofs.«01_k».proof.Proof.Rows
public import proofs.«01_k».proof.Proof.Gen.ReferenceIdeal.Run
public import Idealize.ShloMosaic.Lib.ReduceAll
public import Idealize.ShloMosaic.Lib.WordCmp
public import Idealize.ShloMosaic.Lib.Pipeline.Value

/-!
# What the reference leaves, entry by entry

The reference writes the batch rows into the bank at their row numbers, reads the bank at the same row numbers, and lays the four
arrays read side by side. Where every index names a row of the bank, a negative one counting from the end, and no two name the same
row, the guard on the row numbers' range changes nothing and each read gives back the row written, so the result is the batch laid
side by side (`joined`).
-/

@[expose] public section

noncomputable section

namespace Cert.Proof.ReferenceValue

open Cert.ReferenceIdeal Cert.ReferenceIdeal.Gen
open Idealize.ShloMosaic Idealize.ShloMosaic.TcCoe Idealize.ShloMosaic.ValueIdx

variable {F : FTy → Type} [FloatOps F]

/-- The column of row numbers as the reference uses it, a negative number counted from the bank's end. -/
def numbers (a8 : IVec S16384 32) : IVec S16384x1 32 :=
  broadcastInDim S16384x1 ![0] bcast_S16384_S16384x1_0
    (select (cmpi .slt a8 (broadcastInDim S16384 ![] bcast_S_S16384 (constantI S_ 32 0#32)))
      (addi a8 (broadcastInDim S16384 ![] bcast_S_S16384 (constantI S_ 32 65536#32))) a8)

/-- The reference's guard: whether a batch row's number lies in the bank. -/
def guard (a8 : IVec S16384 32) : IVec S16384 1 :=
  Host.reduce IntOp.andi
    (andi (cmpi .sge (numbers a8) (broadcastInDim S16384x1 ![] bcast_S_S16384x1 (constantI S_ 32 0#32)))
      (cmpi .sle (numbers a8) (broadcastInDim S16384x1 ![0, 1] bcast_S1x1_S16384x1_0_1 (broadcastInDim S1x1 ![1] bcast_S1_S1x1_1 (constantI S1 32 65535#32)))))
    (constantI S_ 1 1#1) reducesTo_S16384x1_S16384_d1 h_S_

variable (a8 : IVec S16384 32)

/-- The column holds, for each batch row, the bank row that its index names. -/
theorem numbers_apply (i : Fin 16384) : numbers a8 (ix2 i (0 : Fin 1)) = named (a8 (ix1 i)) := by
  unfold numbers
  exact broadcastInDim_apply _ _ _ _ (ix1 i) fun a => match a with | ⟨0, _⟩ => rfl

variable (hlt : ∀ i : Fin 16384, (named (a8 (ix1 i))).toNat < 65536)

include hlt in
/-- Row numbers in the bank pass the guard. -/
theorem guard_apply (j : S16384.Idx) : guard a8 j = 1#1 := by
  unfold guard
  refine Host.reduce_andi_one _ _ _ _ j rfl fun k => ?_
  obtain ⟨i, z, rfl⟩ : ∃ (i : Fin 16384) (z : Fin 1), k = ix2 i z := ⟨k 0, k 1, eq_ix2 k⟩
  obtain rfl : z = 0 := Subsingleton.elim _ _
  have h := hlt i
  show IntOp.andi (IntOp.cmpi .sge (numbers a8 (ix2 i 0)) 0#32) (IntOp.cmpi .sle (numbers a8 (ix2 i 0)) 65535#32) = 1#1
  rw [numbers_apply a8]
  refine IntOp.andi_eq_one.2 ⟨?_, ?_⟩
  · rw [WordCmp.cmpi_sge_zero, WordCmp.ofBool_decide_eq_one_iff]
    exact lt_trans h (by decide)
  · rw [WordCmp.cmpi_sle_of_lt (lt_trans h (by decide)) (by decide), WordCmp.ofBool_decide_eq_one_iff]
    exact Nat.le_of_lt_succ h

variable (hne : ∀ i j : Fin 16384, named (a8 (ix1 i)) = named (a8 (ix1 j)) → i = j)

/-- The bank row that batch row `i` names. -/
def row (i : Fin 16384) : Fin 65536 := ⟨(named (a8 (ix1 i))).toNat, hlt i⟩

include hne in
/-- No two batch rows name the same bank row. -/
theorem row_injective : Function.Injective (row a8 hlt) := fun i j h =>
  hne i j (BitVec.eq_of_toNat_eq (show (row a8 hlt i).val = (row a8 hlt j).val from congrArg Fin.val h))

/-- The column of row numbers spells the bank rows. -/
theorem numbers_row (i : Fin 16384) : numbers a8 (ix2 i (0 : Fin 1)) = BitVec.ofNat 32 (row a8 hlt i).val := by
  rw [numbers_apply a8]
  show named (a8 (ix1 i)) = BitVec.ofNat 32 (named (a8 (ix1 i))).toNat
  simp

variable (m : (ℓ : Loc nD τ sig) → Buf (Elt F) ℓ)

/-- THE RESULT OF THE REFERENCE, entry by entry: the batch's four arrays laid side by side, whatever the bank held. -/
theorem result_apply (c : Dev nD)
    (hlt : ∀ i : Fin 16384, (named (m ((c.tc : Thread nD τ).loc main_arg8) (ix1 i))).toNat < 65536)
    (hne : ∀ i j : Fin 16384, named (m ((c.tc : Thread nD τ).loc main_arg8) (ix1 i)) = named (m ((c.tc : Thread nD τ).loc main_arg8) (ix1 j)) → i = j)
    (r : Fin 16384) (y : Fin 773) :
    Cert.ReferenceIdeal.Value.res_out0 m c (ix2 r y)
      = joined (α := F .f32) (m ((c.tc : Thread nD τ).loc main_arg4)) (m ((c.tc : Thread nD τ).loc main_arg5))
          (m ((c.tc : Thread nD τ).loc main_arg6)) (m ((c.tc : Thread nD τ).loc main_arg7)) r y := by
  have hrow := numbers_row (m ((c.tc : Thread nD τ).loc main_arg8)) hlt
  have hinj := row_injective (m ((c.tc : Thread nD τ).loc main_arg8)) hlt hne
  have hg := guard_apply (m ((c.tc : Thread nD τ).loc main_arg8)) hlt
  unfold Cert.ReferenceIdeal.Value.res_out0 Cert.ReferenceIdeal.Value.res_main_v33
  refine concatenate_columns _ _ _ _ _ _ _ _ (fun r k => ?_) (fun r k => ?_) (fun r k => ?_) (fun r => ?_) _ r y
  · refine (WordCmp.select_of_eq_one (hg _) _ _).trans ?_
    exact Rows.take_set_rows _ rfl rfl rfl rfl _ rfl rfl rfl rfl rfl (by decide) _ _ _ _ hrow hinj r k
  · refine (WordCmp.select_of_eq_one (hg _) _ _).trans ?_
    exact Rows.take_set_rows _ rfl rfl rfl rfl _ rfl rfl rfl rfl rfl (by decide) _ _ _ _ hrow hinj r k
  · refine (WordCmp.select_of_eq_one (hg _) _ _).trans ?_
    exact Rows.take_set_rows _ rfl rfl rfl rfl _ rfl rfl rfl rfl rfl (by decide) _ _ _ _ hrow hinj r k
  · refine (broadcastInDim_apply _ _ _ _ (ix1 r) fun a => match a with | ⟨0, _⟩ => rfl).trans ?_
    refine (WordCmp.select_of_eq_one (hg _) _ _).trans ?_
    exact Rows.take_set_entries _ rfl rfl rfl _ rfl rfl rfl rfl (by decide) _ _ _ _ hrow hinj r

end Cert.Proof.ReferenceValue
-- ==== Proof.Distinct.lean ====
module

public import proofs.«01_k».proof.Proof.Joined
public import proofs.«01_k».proof.Proof.Gen.Pre_idx_names_distinct_rows
public import Idealize.ShloMosaic.Lib.Pipeline.Value
public import Idealize.ShloMosaic.Lib.Affine
public import Idealize.ShloMosaic.Lib.WordCmp
public import Idealize.ShloMosaic.Lib.ValueIdxCore

/-!
# What the precondition says

The precondition is a square table of truth values, one per pair of batch rows. That every entry is true says of the indices that
each names a row of the bank, a negative one counting from the bank's end, and that no two batch rows name the same one.
-/

@[expose] public section

noncomputable section

namespace Cert.Proof.Distinct

open Cert.Pre_idx_names_distinct_rows Cert.Pre_idx_names_distinct_rows.Gen
open Idealize.ShloMosaic Idealize.ShloMosaic.ValueIdx

variable {F : FTy → Type} [FloatOps F]

/-- A column spread over a square table reads the column at the table's row. -/
theorem spread_rows {α : Type} (x : S16384.Idx → α) (i j : Fin 16384) :
    broadcastInDim S16384x16384 ![0, 1] bcast_S16384x1_S16384x16384_0_1 (broadcastInDim S16384x1 ![0] bcast_S16384_S16384x1_0 x) (ix2 i j)
      = x (ix1 i) :=
  (broadcastInDim_apply _ _ _ _ (ix2 i (0 : Fin 1)) fun a => match a with | ⟨0, _⟩ => rfl | ⟨1, _⟩ => rfl).trans
    (broadcastInDim_apply _ _ _ _ (ix1 i) fun a => match a with | ⟨0, _⟩ => rfl)

/-- A row spread over a square table reads the row at the table's column. -/
theorem spread_columns {α : Type} (x : S16384.Idx → α) (i j : Fin 16384) :
    broadcastInDim S16384x16384 ![0, 1] bcast_S1x16384_S16384x16384_0_1 (broadcastInDim S1x16384 ![1] bcast_S16384_S1x16384_1 x) (ix2 i j)
      = x (ix1 j) :=
  (broadcastInDim_apply _ _ _ _ (ix2 (0 : Fin 1) j) fun a => match a with | ⟨0, _⟩ => rfl | ⟨1, _⟩ => rfl).trans
    (broadcastInDim_apply _ _ _ _ (ix1 j) fun a => match a with | ⟨0, _⟩ => rfl)

/-- Under the precondition every index names a row of the bank and no two batch rows name the same one. -/
theorem of_pre (a0 : FVec F S65536x768 .f32) (a1 a2 : FVec F S65536x2 .f32) (a3 : FVec F S65536 .f32) (a4 : FVec F S16384x768 .f32)
    (a5 a6 : FVec F S16384x2 .f32) (a7 : FVec F S16384 .f32) (a8 : IVec S16384 32)
    (h : fn a0 a1 a2 a3 a4 a5 a6 a7 a8 = fun _ => 1#1) :
    (∀ i : Fin 16384, (named (a8 (ix1 i))).toNat < 65536) ∧ ∀ i j : Fin 16384, named (a8 (ix1 i)) = named (a8 (ix1 j)) → i = j := by
  have key : ∀ i j : Fin 16384,
      IntOp.andi (IntOp.cmpi .sge (named (a8 (ix1 i))) 0#32) (IntOp.cmpi .slt (named (a8 (ix1 i))) (BitVec.ofNat 32 65536)) = 1#1
      ∧ IntOp.ori (IntOp.cmpi .ne (named (a8 (ix1 i))) (named (a8 (ix1 j)))) (IntOp.cmpi .eq (BitVec.ofNat 32 i.val) (BitVec.ofNat 32 j.val)) = 1#1 := by
    intro i j
    have e := congrFun h (ix2 i j)
    unfold fn at e
    obtain ⟨e1, e2⟩ := IntOp.andi_eq_one.1 e
    rw [spread_rows] at e1
    refine ⟨e1, ?_⟩
    have e3 := IntOp.ori_eq_one.1 e2
    refine IntOp.ori_eq_one.2 (e3.imp (fun q => ?_) id)
    have q' : IntOp.cmpi .ne _ _ = 1#1 := q
    rw [spread_rows, spread_columns] at q'
    exact q'
  refine ⟨fun i => ?_, fun i j hij => ?_⟩
  · have e := (key i i).1
    rw [WordCmp.andi_sge_zero_slt_ofNat (by decide), WordCmp.ofBool_decide_eq_one_iff] at e
    exact e
  · rcases IntOp.ori_eq_one.1 (key i j).2 with e | e
    · rw [WordCmp.cmpi_ne_eq, WordCmp.ofBool_decide_eq_one_iff] at e
      exact absurd hij e
    · have hi := i.isLt
      have hj := j.isLt
      exact Fin.ext ((WordCmp.cmpi_eq_ofNat_eq_one_iff (by omega) (by omega)).1 e)

end Cert.Proof.Distinct
-- ==== Proof.lean ====
/-
  The proof of `Cert.Claim`. The two kernel frames are the generated ones; the reference's frame is read off its generated run, and
  its counters are zero because it has none. The value claim sets side by side what the kernel leaves (Proof/KernelValue.lean) and
  what the reference leaves (Proof/ReferenceValue.lean, under what Proof/Distinct.lean reads out of the precondition): both are the
  batch's four arrays laid side by side (Proof/Joined.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_idx_names_distinct_rows
public import proofs.«01_k».proof.Proof.KernelValue
public import proofs.«01_k».proof.Proof.ReferenceValue
public import proofs.«01_k».proof.Proof.Distinct
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem

/-- The reference runs, leaves its arguments as they were, and ends with every counter at zero, from any memory. -/
theorem frame_reference : Cert.quiescent_ReferenceIdeal := fun m g _ =>
  (θ_run Cert.ReferenceIdeal.defs _ _).mono
    (fun r h => And.intro (fun c => (h c).2) (sem_eq_zero_of_no_sems (by decide) r.2))
    (Cert.ReferenceIdeal.Value.run (F := Ideal) m g)

/-- The reference's result is the kernel's, on one device: from arguments that agree, with every index naming a bank row and
    no two the same one, both are the batch's four arrays laid side by side. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (hlt : ∀ i : Fin 16384, (named
      (m ((c.tc : Thread Cert.KernelIdeal.nD Cert.KernelIdeal.τ).loc Cert.KernelIdeal.main_arg8) (ix1 i))).toNat < 65536)
    (hne : ∀ i j : Fin 16384,
      named (m ((c.tc : Thread Cert.KernelIdeal.nD Cert.KernelIdeal.τ).loc Cert.KernelIdeal.main_arg8) (ix1 i))
        = named (m ((c.tc : Thread Cert.KernelIdeal.nD Cert.KernelIdeal.τ).loc Cert.KernelIdeal.main_arg8) (ix1 j)) → i = j) :
    Cert.ReferenceIdeal.Value.res_out0 m' c = (Cert.KernelIdeal.Gen.dats m 0 c).arrAt 2 Cert.KernelIdeal.cfg0.N := by
  funext k
  obtain ⟨r, y, rfl⟩ : ∃ (r : Fin 16384) (y : Fin 773), k = ix2 r y := ⟨k 0, k 1, eq_ix2 k⟩
  refine (ReferenceValue.result_apply m' c (fun i => ?_) (fun i j e => ?_) r y).trans ?_
  · rw [h8]
    exact hlt i
  · rw [h8] at e
    exact hne i j e
  · rw [h4, h5, h6, h7]
    exact (KernelValue.result_apply m c r y).symm

/-- The value claim: the idealized kernel and the idealized reference end with equal results. -/
theorem algebraic : Cert.algebraic_KernelIdeal_ReferenceIdeal_pre_idx_names_distinct_rows := by
  intro m g m' g' hpre hagree
  refine ⟨fun c => (Cert.KernelIdeal.Gen.dats m 0 c).arrAt 2 Cert.KernelIdeal.cfg0.N, Cert.KernelIdeal.Value.run_blocks m g,
    (θ_run Cert.ReferenceIdeal.defs _ _).mono (fun r h c => ⟨(h c).1.trans ?_, (h c).2⟩) (Cert.ReferenceIdeal.Value.run m' g')⟩
  obtain ⟨hlt, hne⟩ := Distinct.of_pre _ _ _ _ _ _ _ _ _ (hpre c)
  obtain ⟨-, -, -, -, h4, h5, h6, h7, h8⟩ := hagree c
  exact results_equal m m' c h4 h5 h6 h7 h8 hlt hne

/-- Everything the certificate claims. -/
theorem claim : Cert.Claim :=
  ⟨Cert.Kernel.Gen.facts, Cert.KernelIdeal.Gen.facts, Cert.ReferenceIdeal.Gen.facts, Cert.Pre_idx_names_distinct_rows.Gen.facts,
    fun m g _ => Cert.Kernel.Gen.frame m g, fun m g _ => Cert.KernelIdeal.Gen.frame m g, fun m g _ => Cert.KernelIdeal.Gen.frame m g,
    frame_reference, fun m g _ => frame_reference m g trivial, trivial, algebraic⟩

end Cert.Proof

end
